-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x1 : Shape := ⟨2, ![8192, 1]⟩
abbrev S8192 : Shape := ⟨1, ![8192]⟩
abbrev S2048x64 : Shape := ⟨2, ![2048, 64]⟩
abbrev S64 : Shape := ⟨1, ![64]⟩
abbrev S64x64 : Shape := ⟨2, ![64, 64]⟩
abbrev S8x64x1 : Shape := ⟨3, ![8, 64, 1]⟩
abbrev S8x1 : Shape := ⟨2, ![8, 1]⟩
abbrev S8x64x16 : Shape := ⟨3, ![8, 64, 16]⟩
abbrev S8x16 : Shape := ⟨2, ![8, 16]⟩
abbrev S512x1 : Shape := ⟨2, ![512, 1]⟩
abbrev S512x16 : Shape := ⟨2, ![512, 16]⟩
abbrev S1x64 : Shape := ⟨2, ![1, 64]⟩
abbrev S8192x16 : Shape := ⟨2, ![8192, 16]⟩
abbrev S1024x512 : Shape := ⟨2, ![1024, 512]⟩
abbrev S1024x1 : Shape := ⟨2, ![1024, 1]⟩
abbrev S1024x16 : Shape := ⟨2, ![1024, 16]⟩
abbrev S512x64 : Shape := ⟨2, ![512, 64]⟩
abbrev S1024x64 : Shape := ⟨2, ![1024, 64]⟩
abbrev S1024x8 : Shape := ⟨2, ![1024, 8]⟩
abbrev S1024 : Shape := ⟨1, ![1024]⟩

abbrev nBuf : Space → Nat
  | .hbm => 25
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x1, .f32⟩
  | .hbm, ⟨2, _⟩ => ⟨S8192x1, .f32⟩
  | .hbm, ⟨3, _⟩ => ⟨S8192, .i32⟩
  | .hbm, ⟨4, _⟩ => ⟨S2048x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8x64x1, .f32⟩
  | .hbm, ⟨9, _⟩ => ⟨S8x1, .f32⟩
  | .hbm, ⟨10, _⟩ => ⟨S8x64x16, .f32⟩
  | .hbm, ⟨11, _⟩ => ⟨S8x16, .f32⟩
  | .hbm, ⟨12, _⟩ => ⟨S8192x1, .i32⟩
  | .hbm, ⟨13, _⟩ => ⟨S2048x64, .bf16⟩
  | .hbm, ⟨14, _⟩ => ⟨S64x64, .bf16⟩
  | .hbm, ⟨15, _⟩ => ⟨S512x1, .f32⟩
  | .hbm, ⟨16, _⟩ => ⟨S512x1, .bf16⟩
  | .hbm, ⟨17, _⟩ => ⟨S512x16, .f32⟩
  | .hbm, ⟨18, _⟩ => ⟨S512x16, .bf16⟩
  | .hbm, ⟨19, _⟩ => ⟨S8x1, .bf16⟩
  | .hbm, ⟨20, _⟩ => ⟨S8x16, .bf16⟩
  | .hbm, ⟨21, _⟩ => ⟨S1x64, .f32⟩
  | .hbm, ⟨22, _⟩ => ⟨S1x64, .f32⟩
  | .hbm, ⟨23, _⟩ => ⟨S8192x1, .f32⟩
  | .hbm, ⟨24, _⟩ => ⟨S8192x16, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1, .i32⟩
  | .local _ .vmem, ⟨9, _⟩ => ⟨S1024x1, .i32⟩
  | .local _ .vmem, ⟨10, _⟩ => ⟨S2048x64, .bf16⟩
  | .local _ .vmem, ⟨11, _⟩ => ⟨S1x64, .f32⟩
  | .local _ .vmem, ⟨12, _⟩ => ⟨S64x64, .bf16⟩
  | .local _ .vmem, ⟨13, _⟩ => ⟨S1x64, .f32⟩
  | .local _ .vmem, ⟨14, _⟩ => ⟨S512x1, .bf16⟩
  | .local _ .vmem, ⟨15, _⟩ => ⟨S8x1, .bf16⟩
  | .local _ .vmem, ⟨16, _⟩ => ⟨S512x16, .bf16⟩
  | .local _ .vmem, ⟨17, _⟩ => ⟨S8x16, .bf16⟩
  | .local _ .vmem, ⟨18, _⟩ => ⟨S1024x1, .f32⟩
  | .local _ .vmem, ⟨19, _⟩ => ⟨S1024x1, .f32⟩
  | .local _ .vmem, ⟨20, _⟩ => ⟨S1024x16, .f32⟩
  | .local _ .vmem, ⟨21, _⟩ => ⟨S1024x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x16 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8192x2048 : Shape := ⟨2, ![8192, 2048]⟩
abbrev S8192x1 : Shape := ⟨2, ![8192, 1]⟩
abbrev S8192 : Shape := ⟨1, ![8192]⟩
abbrev S2048x64 : Shape := ⟨2, ![2048, 64]⟩
abbrev S64 : Shape := ⟨1, ![64]⟩
abbrev S64x64 : Shape := ⟨2, ![64, 64]⟩
abbrev S8x64x1 : Shape := ⟨3, ![8, 64, 1]⟩
abbrev S8x1 : Shape := ⟨2, ![8, 1]⟩
abbrev S8x64x16 : Shape := ⟨3, ![8, 64, 16]⟩
abbrev S8x16 : Shape := ⟨2, ![8, 16]⟩
abbrev S8192x64 : Shape := ⟨2, ![8192, 64]⟩
abbrev S1x64 : Shape := ⟨2, ![1, 64]⟩
abbrev S1x8 : Shape := ⟨2, ![1, 8]⟩
abbrev S8192x8 : Shape := ⟨2, ![8192, 8]⟩
abbrev S8192x8x1 : Shape := ⟨3, ![8192, 8, 1]⟩
abbrev S1x8x1 : Shape := ⟨3, ![1, 8, 1]⟩
abbrev S8192x8x16 : Shape := ⟨3, ![8192, 8, 16]⟩
abbrev S1x8x16 : Shape := ⟨3, ![1, 8, 16]⟩
abbrev S8192x16 : Shape := ⟨2, ![8192, 16]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1, .f32⟩
  | .hbm, ⟨2, _⟩ => ⟨S8192x1, .f32⟩
  | .hbm, ⟨3, _⟩ => ⟨S8192, .i32⟩
  | .hbm, ⟨4, _⟩ => ⟨S2048x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8x64x1, .f32⟩
  | .hbm, ⟨9, _⟩ => ⟨S8x1, .f32⟩
  | .hbm, ⟨10, _⟩ => ⟨S8x64x16, .f32⟩
  | .hbm, ⟨11, _⟩ => ⟨S8x16, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x1, .i32⟩
  | .hbm, ⟨23, _⟩ => ⟨S1x8, .i32⟩
  | .hbm, ⟨24, _⟩ => ⟨S8192x8, .i32⟩
  | .hbm, ⟨25, _⟩ => ⟨S8192x8, .i32⟩
  | .hbm, ⟨26, _⟩ => ⟨S8192x8, .i1⟩
  | .hbm, ⟨27, _⟩ => ⟨S8192x8, .f32⟩
  | .hbm, ⟨28, _⟩ => ⟨S8192x8x1, .f32⟩
  | .hbm, ⟨29, _⟩ => ⟨S1x8x1, .f32⟩
  | .hbm, ⟨30, _⟩ => ⟨S8192x8x1, .f32⟩
  | .hbm, ⟨31, _⟩ => ⟨S8192x8x1, .f32⟩
  | .hbm, ⟨32, _⟩ => ⟨S8192x1, .f32⟩
  | .hbm, ⟨33, _⟩ => ⟨S8192x8x16, .f32⟩
  | .hbm, ⟨34, _⟩ => ⟨S1x8x16, .f32⟩
  | .hbm, ⟨35, _⟩ => ⟨S8192x8x16, .f32⟩
  | .hbm, ⟨36, _⟩ => ⟨S8192x8x16, .f32⟩
  | .hbm, ⟨37, _⟩ => ⟨S8192x16, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1, .f32⟩
  | .hbm, ⟨51, _⟩ => ⟨S8192x16, .f32⟩
  | .hbm, ⟨52, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_call1_cst_0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Actor.Spec.lean ====
/- The actor-critic head over the extended reals, one row of the batch at a time, and the facts of sums that a blocked
   evaluation of it needs. No program is mentioned here. -/
module

public import Idealize.ShloMosaic.Lib.Pointwise

@[expose] public section

noncomputable section

namespace Actor

open Idealize.ShloMosaic

/-! ## The function -/

/-- One dense layer with a tanh: `tanh (x · w + b)`. -/
def layer {n k : ℕ} (x : Fin n → EReal) (w : Fin n → Fin k → EReal) (b : Fin k → EReal) (j : Fin k) : EReal :=
  Ideal.tanh (∑ i, x i * w i j + b j)

/-- The one-hot code of the action word `a` at expert `e`. -/
def pick (a : BitVec 32) (e : Fin 8) : EReal := if a = BitVec.ofNat 32 e.val then 1 else 0

/-- The routed linear head: the one-hot combination, over the experts, of `x · w e + b e`. -/
def head (a : BitVec 32) (x : Fin 64 → EReal) (w : Fin 8 → Fin 64 → EReal) (b : Fin 8 → EReal) : EReal :=
  ∑ e, pick a e * (∑ h, x h * w e h + b e)

/-- The row maximum, started at the word of minus infinity. -/
def top (z : Fin 16 → EReal) : EReal := Finset.univ.fold max (Ideal.ofBits .f32 0xFF800000#32) z

/-- The logarithm of the softmax of the row `z`, shifted by the row's maximum. -/
def logSoftmax (z : Fin 16 → EReal) (j : Fin 16) : EReal :=
  z j - top z - Ideal.log (∑ i, Ideal.exp (z i - top z))

/-- The two-layer base network on one row `x` of observations. -/
def features (x : Fin 2048 → EReal) (W1 : FVec Ideal ⟨2, ![2048, 64]⟩ .f32) (b1 : FVec Ideal ⟨1, ![64]⟩ .f32)
    (W2 : FVec Ideal ⟨2, ![64, 64]⟩ .f32) (b2 : FVec Ideal ⟨1, ![64]⟩ .f32) : Fin 64 → EReal :=
  layer (layer x (fun d h => W1 (ix2 d h)) fun h => b1 (ix1 h)) (fun d h => W2 (ix2 d h)) fun h => b2 (ix1 h)

/-- Result 1, the routed critic value of every row. -/
def value (X : FVec Ideal ⟨2, ![8192, 2048]⟩ .f32) (act : IVec ⟨1, ![8192]⟩ 32)
    (W1 : FVec Ideal ⟨2, ![2048, 64]⟩ .f32) (b1 : FVec Ideal ⟨1, ![64]⟩ .f32)
    (W2 : FVec Ideal ⟨2, ![64, 64]⟩ .f32) (b2 : FVec Ideal ⟨1, ![64]⟩ .f32)
    (Wc : FVec Ideal ⟨3, ![8, 64, 1]⟩ .f32) (bc : FVec Ideal ⟨2, ![8, 1]⟩ .f32) :
    FVec Ideal ⟨2, ![8192, 1]⟩ .f32 := fun i =>
  head (act (ix1 (i 0))) (features (fun d => X (ix2 (i 0) d)) W1 b1 W2 b2)
    (fun e h => Wc (ix3 e h 0)) fun e => bc (ix2 e 0)

/-- Result 2, the log-probabilities of the 16 actions under the routed actor head, for every row. -/
def logProbs (X : FVec Ideal ⟨2, ![8192, 2048]⟩ .f32) (act : IVec ⟨1, ![8192]⟩ 32)
    (W1 : FVec Ideal ⟨2, ![2048, 64]⟩ .f32) (b1 : FVec Ideal ⟨1, ![64]⟩ .f32)
    (W2 : FVec Ideal ⟨2, ![64, 64]⟩ .f32) (b2 : FVec Ideal ⟨1, ![64]⟩ .f32)
    (Wa : FVec Ideal ⟨3, ![8, 64, 16]⟩ .f32) (ba : FVec Ideal ⟨2, ![8, 16]⟩ .f32) :
    FVec Ideal ⟨2, ![8192, 16]⟩ .f32 := fun i =>
  logSoftmax (fun q => head (act (ix1 (i 0))) (features (fun d => X (ix2 (i 0) d)) W1 b1 W2 b2)
    (fun e h => Wa (ix3 e h q)) fun e => ba (ix2 e q)) (i 1)

/-! ## Facts -/

/-- The one-hot code is 0 or 1. -/
theorem pick_cases (a : BitVec 32) (e : Fin 8) : pick a e = 0 ∨ pick a e = 1 := by
  unfold pick; split <;> simp

/-- Comparing an action word with an expert's number and reading the bit as a number gives the one-hot code. -/
theorem pick_of_cmp (a : BitVec 32) (e : Fin 8) :
    (((IntOp.cmpi .eq a (BitVec.ofNat 32 e.val)).toNat : ℝ) : EReal) = pick a e := by
  unfold pick IntOp.cmpi
  by_cases h : a = BitVec.ofNat 32 e.val <;> simp [h]

/-- The same through a widened word that is read signed, the comparison written the other way round. -/
theorem pick_of_wide (a : BitVec 32) (e : Fin 8) :
    ((((IntOp.cmpi .eq (BitVec.ofNat 32 e.val) a).setWidth 32).toInt : ℝ) : EReal) = pick a e := by
  unfold pick IntOp.cmpi
  by_cases h : a = BitVec.ofNat 32 e.val
  · simp [h]
  · have h' : (BitVec.ofNat 32 e.val == a) = false := by simpa using fun e => h (Eq.symm e)
    simp [h, h']

/-- A factor that is 0 or 1 goes over a sum of two. -/
theorem pick_add (a : BitVec 32) (e : Fin 8) (u v : EReal) : pick a e * (u + v) = pick a e * u + pick a e * v := by
  rcases pick_cases a e with h | h <;> simp [h]

/-- A factor that is 0 or 1 goes into a contraction. -/
theorem pick_sum (a : BitVec 32) (e : Fin 8) (x w : Fin 64 → EReal) :
    ∑ h, x h * pick a e * w h = pick a e * ∑ h, x h * w h := by
  rcases pick_cases a e with h | h <;> simp [h]

/-- THE ROUTED HEAD AS ONE CONTRACTION: the features repeated once for each expert, masked by the one-hot code and
    contracted with the experts' weights laid end to end, plus the one-hot combination of the biases. -/
theorem head_of_flat (a : BitVec 32) (x : Fin 64 → EReal) (w : Fin 8 → Fin 64 → EReal) (b : Fin 8 → EReal)
    (f : Fin 512 → EReal)
    (hf : ∀ k : Fin 512, f k = x ⟨k.val % 64, by omega⟩ * pick a ⟨k.val / 64, by omega⟩
      * w ⟨k.val / 64, by omega⟩ ⟨k.val % 64, by omega⟩) :
    ∑ k, f k + ∑ e, pick a e * b e = head a x w b := by
  rw [Fin.sum_univ_tiles 8 64 rfl f, ← Finset.sum_add_distrib]
  refine Finset.sum_congr rfl fun e _ => ?_
  rw [pick_add, ← pick_sum a e x (w e)]
  refine congrArg (· + _) (Finset.sum_congr rfl fun h _ => ?_)
  rw [hf]
  have he : (⟨(e.val * 64 + h.val) / 64, by omega⟩ : Fin 8) = e := Fin.ext (by simp only; omega)
  have hh : (⟨(e.val * 64 + h.val) % 64, by omega⟩ : Fin 64) = h := Fin.ext (by simp only; omega)
  simp only [he, hh]

/-- A CONTRACTION OVER 2048 IN FOUR QUARTERS, added from left to right. -/
theorem sum_quarters (f : Fin 2048 → EReal) :
    ∑ k : Fin 512, f ⟨k.val, by omega⟩ + ∑ k : Fin 512, f ⟨512 + k.val, by omega⟩
      + ∑ k : Fin 512, f ⟨1024 + k.val, by omega⟩ + ∑ k : Fin 512, f ⟨1536 + k.val, by omega⟩ = ∑ d, f d := by
  rw [Fin.sum_univ_tiles 4 512 rfl f]
  simp [Fin.sum_univ_four]

/-- Taking the row's maximum with the starting value once more changes nothing: the reference's log-softmax. -/
theorem logSoftmax_of_max (z : Fin 16 → EReal) (j : Fin 16) :
    z j - max (Ideal.ofBits .f32 0xFF800000#32) (top z)
      - Ideal.log (∑ i, Ideal.exp (z i - max (Ideal.ofBits .f32 0xFF800000#32) (top z))) = logSoftmax z j := by
  have h : max (Ideal.ofBits .f32 0xFF800000#32) (top z) = top z :=
    max_eq_right ((Finset.le_fold_max _).2 (Or.inl le_rfl))
  rw [h, logSoftmax]

end Actor

end
-- ==== Proof.Actor.Reference.lean ====
/- What the reference computes: its two computed results, read at an index, are the actor-critic head. -/
module

public import proofs.«01_k».proof.Proof.Gen.ReferenceIdeal.Run
public import proofs.«01_k».proof.Proof.Actor.Spec
public import Idealize.ShloMosaic.Lib.Pointwise

@[expose] public section

set_option maxRecDepth 16384

noncomputable section

namespace Cert.ReferenceIdeal.Actor

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (ρ : Dev nD → PrngReg)

/-- The comparison's bit as a float is the one-hot code. -/
theorem pick_of_bit (a : BitVec 32) (e : Fin 8) :
    FloatOps.uitofp (F := Ideal) .f32 (IntOp.cmpi .eq a (BitVec.ofNat 32 e.val)) = _root_.Actor.pick a e :=
  _root_.Actor.pick_of_cmp a e

/-- The reference's log-probabilities are the function `logProbs` of the arguments. -/
theorem logProbs_eq (c : Dev nD) : res_out1 m c = _root_.Actor.logProbs
      (m ((c : Thread nD τ).loc main_arg0)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg10)) (m ((c : Thread nD τ).loc main_arg11)) := by
  funext i
  idx_vars i
  pointwise [res_out1, res_main_v21, pick_of_bit, _root_.Actor.logProbs]
  simp only [← _root_.Actor.logSoftmax_of_max, _root_.Actor.top, _root_.Actor.head, _root_.Actor.features,
    _root_.Actor.layer]

/-- THE REFERENCE'S RUN: every execution ends with the head's value and log-probabilities of the arguments, and the
    arguments unchanged. -/
theorem run : θ_run defs (onTc (τ := τ) (main (F := Ideal))) ⟨m, fun _ => 0, ρ⟩ fun r => ∀ c : Dev nD,
      r.2.mem ((c : Thread nD τ).loc main_v15) = _root_.Actor.value
        (m ((c : Thread nD τ).loc main_arg0)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
      ∧ r.2.mem ((c : Thread nD τ).loc main_v21) = _root_.Actor.logProbs
        (m ((c : Thread nD τ).loc main_arg0)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg10)) (m ((c : Thread nD τ).loc main_arg11))
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (by
      funext i
      idx_vars i
      obtain rfl : i1 = 0 := Subsingleton.elim _ _
      pointwise [_root_.Actor.value, _root_.Actor.head, _root_.Actor.features, _root_.Actor.layer, pick_of_bit]), (h c).2.1.trans (logProbs_eq m c), (h c).2.2⟩) (Value.run m ρ)

end Cert.ReferenceIdeal.Actor

end
-- ==== Proof.Actor.Block.lean ====
/- What one grid point's body computes: each of the body's stored values, read at a row of the block, is the actor-critic
   head of that row. The blocks are variables here; where they lie in the arrays is Array.lean's. -/
module

public import proofs.«01_k».proof.Proof.Gen.KernelIdeal.Skeleton
public import proofs.«01_k».proof.Proof.Actor.Spec
public import Idealize.ShloMosaic.Lib.Pointwise

@[expose] public section

set_option maxRecDepth 16384

noncomputable section

namespace Cert.KernelIdeal.Actor

open Cert.KernelIdeal Cert.KernelIdeal.Gen Idealize.ShloMosaic Idealize.ShloMosaic.TcCoe Idealize.SL.Sem

/-! ## The base network -/

/-- THE BASE NETWORK OF ROW `r`: the four quarter products, added up, are the product over all 2048 observations. -/
theorem features_block (w1 : FVec Ideal S2048x64 .bf16) (x0 x1 x2 x3 : FVec Ideal S1024x512 .f32)
    (b1 : FVec Ideal S1x64 .f32) (w2 : FVec Ideal S64x64 .bf16) (b2 : FVec Ideal S1x64 .f32) (r : Fin 1024)
    (X : Fin 2048 → EReal)
    (h0 : ∀ k : Fin 512, x0 (ix2 r k) = X ⟨k.val, by omega⟩)
    (h1 : ∀ k : Fin 512, x1 (ix2 r k) = X ⟨512 + k.val, by omega⟩)
    (h2 : ∀ k : Fin 512, x2 (ix2 r k) = X ⟨1024 + k.val, by omega⟩)
    (h3 : ∀ k : Fin 512, x3 (ix2 r k) = X ⟨1536 + k.val, by omega⟩) (h : Fin 64) :
    k0_pay2 (F := Ideal) w1 x0 x1 x2 x3 b1 w2 b2 (ix2 r h)
      = _root_.Actor.layer (_root_.Actor.layer X (fun d h => w1 (ix2 d h)) fun h => b1 (ix2 0 h))
          (fun d h => w2 (ix2 d h)) (fun h => b2 (ix2 0 h)) h := by
  pointwise [k0_pay2, h0, h1, h2, h3]
  simp only [_root_.Actor.layer]
  simp only [← _root_.Actor.sum_quarters]

/-! ## The masked features -/

/-- Flooring division of a lane number below 512 by 64, as the body spells it in words, is the quotient. -/
theorem floor_word : ∀ k : Fin 512,
    Scalar.select
      (IntOp.andi
        (IntOp.cmpi .ne
          (IntOp.subi (BitVec.setWidth 32 (IntOp.cmpi .sgt (BitVec.ofNat 32 k.val) 0#32))
            (BitVec.setWidth 32 (IntOp.cmpi .slt (BitVec.ofNat 32 k.val) 0#32)))
          (Scalar.subi (Scalar.extui (Scalar.cmpi .sgt 64#32 0#32))
            (Scalar.extui (Scalar.cmpi .slt 64#32 0#32))))
        (IntOp.cmpi .ne (IntOp.remsi .vector (BitVec.ofNat 32 k.val) 64#32) 0#32))
      (IntOp.subi (IntOp.divsi .vector (BitVec.ofNat 32 k.val) 64#32) 1#32)
      (IntOp.divsi .vector (BitVec.ofNat 32 k.val) 64#32) = BitVec.ofNat 32 (k.val / 64) := by
  decide +kernel

/-- The one-hot block at row `r`, expert `e`. -/
theorem onehot_block (a : IVec S1024x1 32) (r : Fin 1024) (e : Fin 8) :
    k0_pay4 (F := Ideal) a (ix2 r e) = _root_.Actor.pick (a (ix2 r 0)) e := by
  pointwise [k0_pay4, k0_pay3]
  exact _root_.Actor.pick_of_wide _ e

/-- The masked features at row `r`, lane `k`: feature `k mod 64`, kept where the row's expert is `k div 64`. -/
theorem masked_block (x : FVec Ideal S1024x64 .f32) (a : IVec S1024x1 32) (r : Fin 1024) (k : Fin 512) :
    k0_pay5 (F := Ideal) x a (ix2 r k)
      = x (ix2 r ⟨k.val % 64, by omega⟩) * _root_.Actor.pick (a (ix2 r 0)) ⟨k.val / 64, by omega⟩ := by
  pointwise [k0_pay5, k0_pay3, floor_word k]
  refine Ideal.mul_congr ?_ (_root_.Actor.pick_of_wide _ ⟨k.val / 64, by omega⟩)
  split_ifs <;> exact congrArg (fun q => x (ix2 r q)) (Fin.ext (by simp only; omega))

/-! ## The heads -/

/-- THE VALUE OF ROW `r`. -/
theorem value_block (x : FVec Ideal S1024x64 .f32) (a : IVec S1024x1 32) (wc : FVec Ideal S512x1 .bf16)
    (bc : FVec Ideal S8x1 .bf16) (r : Fin 1024) (w : Fin 8 → Fin 64 → EReal)
    (hw : ∀ k : Fin 512, wc (ix2 k 0) = w ⟨k.val / 64, by omega⟩ ⟨k.val % 64, by omega⟩) :
    k0_pay6 (F := Ideal) x a wc bc (ix2 r 0)
      = _root_.Actor.head (a (ix2 r 0)) (fun h => x (ix2 r h)) w fun e => bc (ix2 e 0) := by
  pointwise [k0_pay6, onehot_block]
  exact _root_.Actor.head_of_flat _ (fun h => x (ix2 r h)) w (fun e => bc (ix2 e 0)) _ fun k => by
    rw [masked_block, hw]

/-- THE LOG-PROBABILITIES OF ROW `r`. -/
theorem logProbs_block (x : FVec Ideal S1024x64 .f32) (a : IVec S1024x1 32) (wa : FVec Ideal S512x16 .bf16)
    (ba : FVec Ideal S8x16 .bf16) (r : Fin 1024) (j : Fin 16) (w : Fin 16 → Fin 8 → Fin 64 → EReal)
    (hw : ∀ (k : Fin 512) (q : Fin 16), wa (ix2 k q) = w q ⟨k.val / 64, by omega⟩ ⟨k.val % 64, by omega⟩) :
    k0_pay1 (F := Ideal) (k0_pay4 a) (k0_pay5 x a) wa ba (ix2 r j)
      = _root_.Actor.logSoftmax (fun q => _root_.Actor.head (a (ix2 r 0)) (fun h => x (ix2 r h)) (w q)
          fun e => ba (ix2 e q)) j := by
  have hz : ∀ q : Fin 16, ∑ k, k0_pay5 (F := Ideal) x a (ix2 r k) * wa (ix2 k q)
      + ∑ e, _root_.Actor.pick (a (ix2 r 0)) e * ba (ix2 e q)
      = _root_.Actor.head (a (ix2 r 0)) (fun h => x (ix2 r h)) (w q) fun e => ba (ix2 e q) := fun q =>
    _root_.Actor.head_of_flat _ (fun h => x (ix2 r h)) (w q) (fun e => ba (ix2 e q)) _ fun k => by
      rw [masked_block, hw]
  pointwise [k0_pay1, onehot_block]
  simp only [hz, _root_.Actor.logSoftmax, _root_.Actor.top]

end Cert.KernelIdeal.Actor

end
-- ==== Proof.Actor.Array.lean ====
/- The kernel's result arrays after the run: block by block the rows of the actor-critic head, hence the whole arrays. -/
module

public import proofs.«01_k».proof.Proof.Gen.KernelIdeal.Value
public import proofs.«01_k».proof.Proof.Actor.Block
public import Idealize.ShloMosaic.Lib.Pipeline.ValueKit

@[expose] public section

set_option maxRecDepth 16384

noncomputable section

namespace Cert.KernelIdeal.Actor

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where every window's block lies: the four observation windows at row block `t` and column block 0 to 3, the actions
    and both results at row block `t`, every other window at the origin. -/
theorem idx : ∀ t : Fin cfg0.N, win0_0.index t = ![t.val, 0] ∧ win0_1.index t = ![t.val, 1] ∧
    win0_2.index t = ![t.val, 2] ∧ win0_3.index t = ![t.val, 3] ∧ win0_4.index t = ![t.val, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧ win0_12.index t = ![0, 0] ∧
    win0_13.index t = ![t.val, 0] ∧ win0_14.index t = ![t.val, 0] :=
  (by decide +kernel : ∀ t : Fin grid0.N, _)

/-- The array row of row `r` of block `t`. -/
def row (t : Fin cfg0.N) (r : Fin 1024) : Fin 8192 := ⟨t.val * 1024 + r.val, by
  have h : t.val < 8 := t.isLt
  omega⟩

/-! ## The input blocks -/

/-- Observation window 0 at row `r`: the first quarter of the array's row. -/
theorem obs0_at (c : Dev nD) (t : Fin cfg0.N) (r : Fin 1024) (k : Fin 512) :
    (show FVec Ideal S1024x512 .f32 from iblk m c 0 t) (ix2 r k) = m ((c : Thread nD τ).loc main_arg0) (ix2 (row t r) ⟨k.val, by omega⟩) := by
  blk_point [iblk, V, idx t, row]

/-- Observation window 1 at row `r`: the second quarter of the array's row. -/
theorem obs1_at (c : Dev nD) (t : Fin cfg0.N) (r : Fin 1024) (k : Fin 512) :
    (show FVec Ideal S1024x512 .f32 from iblk m c 1 t) (ix2 r k) = m ((c : Thread nD τ).loc main_arg0) (ix2 (row t r) ⟨512 + k.val, by omega⟩) := by
  blk_point [iblk, V, idx t, row]

/-- Observation window 2 at row `r`: the third quarter of the array's row. -/
theorem obs2_at (c : Dev nD) (t : Fin cfg0.N) (r : Fin 1024) (k : Fin 512) :
    (show FVec Ideal S1024x512 .f32 from iblk m c 2 t) (ix2 r k) = m ((c : Thread nD τ).loc main_arg0) (ix2 (row t r) ⟨1024 + k.val, by omega⟩) := by
  blk_point [iblk, V, idx t, row]

/-- Observation window 3 at row `r`: the last quarter of the array's row. -/
theorem obs3_at (c : Dev nD) (t : Fin cfg0.N) (r : Fin 1024) (k : Fin 512) :
    (show FVec Ideal S1024x512 .f32 from iblk m c 3 t) (ix2 r k) = m ((c : Thread nD τ).loc main_arg0) (ix2 (row t r) ⟨1536 + k.val, by omega⟩) := by
  blk_point [iblk, V, idx t, row]

/-- The action of row `r`. -/
theorem act_at (c : Dev nD) (t : Fin cfg0.N) (r : Fin 1024) :
    (show IVec S1024x1 32 from iblk m c 4 t) (ix2 r 0) = m ((c : Thread nD τ).loc main_arg3) (ix1 (row t r)) := by
  blk_point [iblk, V, idx t, row]

/-- The first layer's weights. -/
theorem w1_at (c : Dev nD) (t : Fin cfg0.N) (d : Fin 2048) (h : Fin 64) :
    (show FVec Ideal S2048x64 .bf16 from iblk m c 5 t) (ix2 d h) = m ((c : Thread nD τ).loc main_arg4) (ix2 d h) := by
  blk_point [iblk, V, idx t, row]

/-- The first layer's bias. -/
theorem b1_at (c : Dev nD) (t : Fin cfg0.N) (h : Fin 64) :
    (show FVec Ideal S1x64 .f32 from iblk m c 6 t) (ix2 0 h) = m ((c : Thread nD τ).loc main_arg5) (ix1 h) := by
  blk_point [iblk, V, idx t, row]

/-- The second layer's weights. -/
theorem w2_at (c : Dev nD) (t : Fin cfg0.N) (d h : Fin 64) :
    (show FVec Ideal S64x64 .bf16 from iblk m c 7 t) (ix2 d h) = m ((c : Thread nD τ).loc main_arg6) (ix2 d h) := by
  blk_point [iblk, V, idx t, row]

/-- The second layer's bias. -/
theorem b2_at (c : Dev nD) (t : Fin cfg0.N) (h : Fin 64) :
    (show FVec Ideal S1x64 .f32 from iblk m c 8 t) (ix2 0 h) = m ((c : Thread nD τ).loc main_arg7) (ix1 h) := by
  blk_point [iblk, V, idx t, row]

/-- The critic weights, laid end to end: lane `k` is feature `k mod 64` of expert `k div 64`. -/
theorem wc_at (c : Dev nD) (t : Fin cfg0.N) (k : Fin 512) :
    (show FVec Ideal S512x1 .bf16 from iblk m c 9 t) (ix2 k 0) = m ((c : Thread nD τ).loc main_arg8) (ix3 ⟨k.val / 64, by omega⟩ ⟨k.val % 64, by omega⟩ 0) := by
  blk_point [iblk, V, idx t, row]

/-- The critic biases. -/
theorem bc_at (c : Dev nD) (t : Fin cfg0.N) (e : Fin 8) :
    (show FVec Ideal S8x1 .bf16 from iblk m c 10 t) (ix2 e 0) = m ((c : Thread nD τ).loc main_arg9) (ix2 e 0) := by
  blk_point [iblk, V, idx t, row]

/-- The actor weights, laid end to end. -/
theorem wa_at (c : Dev nD) (t : Fin cfg0.N) (k : Fin 512) (q : Fin 16) :
    (show FVec Ideal S512x16 .bf16 from iblk m c 11 t) (ix2 k q) = m ((c : Thread nD τ).loc main_arg10) (ix3 ⟨k.val / 64, by omega⟩ ⟨k.val % 64, by omega⟩ q) := by
  blk_point [iblk, V, idx t, row]

/-- The actor biases. -/
theorem ba_at (c : Dev nD) (t : Fin cfg0.N) (e : Fin 8) (q : Fin 16) :
    (show FVec Ideal S8x16 .bf16 from iblk m c 12 t) (ix2 e q) = m ((c : Thread nD τ).loc main_arg11) (ix2 e q) := by
  blk_point [iblk, V, idx t, row]

/-! ## The body over them -/

/-- The base network that point `t` computes at row `r` is that of the array's row. -/
theorem features_at (c : Dev nD) (t : Fin cfg0.N) (r : Fin 1024) (h : Fin 64) :
    k0_pay7 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r h)
      = _root_.Actor.features (fun d => m ((c : Thread nD τ).loc main_arg0) (ix2 (row t r) d))
        (m ((c : Thread nD τ).loc main_arg4)) (m ((c : Thread nD τ).loc main_arg5))
        (m ((c : Thread nD τ).loc main_arg6)) (m ((c : Thread nD τ).loc main_arg7)) h := by
  unfold k0_pay7
  frame_out
  refine (features_block _ _ _ _ _ _ _ _ r (fun d => m ((c : Thread nD τ).loc main_arg0) (ix2 (row t r) d))
    (obs0_at m c t r) (obs1_at m c t r) (obs2_at m c t r) (obs3_at m c t r) h).trans ?_
  have e1 := fun d h => w1_at m c t d h
  have e2 := fun h => b1_at m c t h
  have e3 := fun d h => w2_at m c t d h
  have e4 := fun h => b2_at m c t h
  simp only [_root_.Actor.features] at e1 e2 e3 e4 ⊢
  simp only [e1, e2, e3, e4]

/-- What point `t` stores as the value of row `r` is the value of the array's row. -/
theorem value_at (c : Dev nD) (t : Fin cfg0.N) (r : Fin 1024) :
    k0_pay6 (F := Ideal) (k0_pay7 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
        (iblk m c 4 t) (iblk m c 9 t) (iblk m c 10 t) (ix2 r 0)
      = _root_.Actor.value
        (m ((c : Thread nD τ).loc main_arg0)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) (ix2 (row t r) 0) := by
  refine (value_block _ _ _ _ r (fun e h => m ((c : Thread nD τ).loc main_arg8) (ix3 e h 0)) (wc_at m c t)).trans ?_
  exact congr (congr (congrArg₂ _root_.Actor.head (act_at m c t r) (funext (features_at m c t r))) rfl)
    (funext (bc_at m c t))

/-- What point `t` stores as the log-probabilities of row `r` is the log-probabilities of the array's row. -/
theorem logProbs_at (c : Dev nD) (t : Fin cfg0.N) (r : Fin 1024) (j : Fin 16) :
    k0_pay1 (F := Ideal) (k0_pay4 (iblk m c 4 t)) (k0_pay5 (k0_pay7 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
        (iblk m c 4 t)) (iblk m c 11 t) (iblk m c 12 t) (ix2 r j)
      = _root_.Actor.logProbs
        (m ((c : Thread nD τ).loc main_arg0)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg10)) (m ((c : Thread nD τ).loc main_arg11)) (ix2 (row t r) j) := by
  refine (logProbs_block _ _ _ _ r j (fun q e h => m ((c : Thread nD τ).loc main_arg10) (ix3 e h q))
    (wa_at m c t)).trans ?_
  refine congrArg (fun z => _root_.Actor.logSoftmax z j) (funext fun q => ?_)
  exact congr (congr (congrArg₂ _root_.Actor.head (act_at m c t r) (funext (features_at m c t r))) rfl)
    (funext fun e => ba_at m c t e q)

/-! ## The result arrays -/

/-- Row `r` of block `t` of the values lies at the array's row `row t r`. -/
theorem emb13 (t : Fin cfg0.N) (r : Fin 1024) :
    ((View.whole main_v11_0).slice (win0_13.rect t)).emb (ix2 r 0 : S1024x1.Idx) = (ix2 (row t r) 0 : S8192x1.Idx) := by
  blk_ext [idx t, row]

/-- Row `r` of block `t` of the log-probabilities lies at the array's row `row t r`. -/
theorem emb14 (t : Fin cfg0.N) (r : Fin 1024) (j : Fin 16) :
    ((View.whole main_v11_1).slice (win0_14.rect t)).emb (ix2 r j : S1024x16.Idx) = (ix2 (row t r) j : S8192x16.Idx) := by
  blk_ext [idx t, row]

/-- THE VALUES: the first result array after the run. -/
theorem final13 (c : Dev nD) : (dats m 0 c).arrAt 13 (cfgs 0).N = _root_.Actor.value
        (m ((c : Thread nD τ).loc main_arg0)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) := by
  refine (dats m 0 c).arrAt_eq_of_covers 13 _ (by decide +kernel) fun t _ y => ?_
  blk_simp
  rw [after0_13]; frame_out
  obtain ⟨r, rfl⟩ : ∃ r : Fin 1024, y = (ix2 r 0 : S1024x1.Idx) :=
    ⟨y 0, (eq_ix2 y).trans (congrArg (ix2 (y 0)) (Fin.fin_one_eq_zero (y 1)))⟩
  exact (value_at m c t r).trans (congrArg _ (emb13 t r).symm)

/-- THE LOG-PROBABILITIES: the second result array after the run. -/
theorem final14 (c : Dev nD) : (dats m 0 c).arrAt 14 (cfgs 0).N = _root_.Actor.logProbs
        (m ((c : Thread nD τ).loc main_arg0)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg10)) (m ((c : Thread nD τ).loc main_arg11)) := by
  refine (dats m 0 c).arrAt_eq_of_covers 14 _ (by decide +kernel) fun t _ y => ?_
  blk_simp
  rw [after0_14]; frame_out
  obtain ⟨r, j, rfl⟩ : ∃ (r : Fin 1024) (j : Fin 16), y = (ix2 r j : S1024x16.Idx) := ⟨y 0, y 1, eq_ix2 y⟩
  exact (logProbs_at m c t r j).trans (congrArg _ (emb14 t r j).symm)

end Cert.KernelIdeal.Actor

end
-- ==== Proof.lean ====
/- The certificate of the routed actor-critic kernel, assembled: the three frames (the two kernel programs' are generated),
   `preserves` (no operation was rewritten), and `algebraic`: over the extended reals the kernel's two computed arrays and
   the reference's are the same functions of the arguments, `Actor.value` and `Actor.logProbs` (Proof/Actor/Spec.lean),
   and the third result is the argument `states` in both. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Actor.Reference
public import proofs.«01_k».proof.Proof.Actor.Array
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference terminates and leaves its arguments unchanged; it declares no semaphore, so every counter is at zero. -/
theorem frame_reference : Cert.quiescent_ReferenceIdeal (hReferenceIdeal := Cert.ReferenceIdeal.Gen.facts) := by
  intro m g _
  refine (θ_run Cert.ReferenceIdeal.defs _ _).mono
    (fun r h => ⟨h, sem_eq_zero_of_no_sems (by decide) r.2⟩) (?_ : θ_run _ _ _ fun r => ∀ c, _)
  run_from Cert.ReferenceIdeal.Actor.run m g

/-- Over the extended reals the kernel computes the reference's three results. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Actor.run m' g'
    · exact (Cert.KernelIdeal.Actor.final13 m _).symm
    · exact (Cert.KernelIdeal.Actor.final14 m _).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
